-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S6144x128 : Shape := ⟨2, ![6144, 128]⟩
abbrev S128x1024 : Shape := ⟨2, ![128, 1024]⟩
abbrev S1024 : Shape := ⟨1, ![1024]⟩
abbrev S1x1024 : Shape := ⟨2, ![1, 1024]⟩
abbrev S512x128 : Shape := ⟨2, ![512, 128]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S6144x128, .f32⟩
  | .hbm, ⟨2, _⟩ => ⟨S128x1024, .f32⟩
  | .hbm, ⟨3, _⟩ => ⟨S1024, .f32⟩
  | .hbm, ⟨4, _⟩ => ⟨S1x1024, .f32⟩
  | .hbm, ⟨5, _⟩ => ⟨S4x2048x1024, .f32⟩
  | .local _ .vmem, ⟨0, _⟩ => ⟨S512x128, .f32⟩
  | .local _ .vmem, ⟨1, _⟩ => ⟨S512x128, .f32⟩
  | .local _ .vmem, ⟨2, _⟩ => ⟨S128x1024, .f32⟩
  | .local _ .vmem, ⟨3, _⟩ => ⟨S1x1024, .f32⟩
  | .local _ .vmem, ⟨4, _⟩ => ⟨S4x512x1024, .f32⟩
  | .local _ .vmem, ⟨5, _⟩ => ⟨S4x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x1024 : Shape := ⟨3, ![4, 2048, 1024]⟩
abbrev S6144x128 : Shape := ⟨2, ![6144, 128]⟩
abbrev S128x1024 : Shape := ⟨2, ![128, 1024]⟩
abbrev S1024 : Shape := ⟨1, ![1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x128 : Shape := ⟨2, ![2048, 128]⟩
abbrev S2048x1024 : Shape := ⟨2, ![2048, 1024]⟩
abbrev S1x1024 : Shape := ⟨2, ![1, 1024]⟩
abbrev S1x2048x1024 : Shape := ⟨3, ![1, 2048, 1024]⟩
abbrev S1x1x1x2048x1x1024 : Shape := ⟨6, ![1, 1, 1, 2048, 1, 1024]⟩
abbrev S4x1x1x2048x1x1024 : Shape := ⟨6, ![4, 1, 1, 2048, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S6144x128, .f32⟩
  | .hbm, ⟨2, _⟩ => ⟨S128x1024, .f32⟩
  | .hbm, ⟨3, _⟩ => ⟨S1024, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x128, .f32⟩
  | .hbm, ⟨24, _⟩ => ⟨S2048x128, .i1⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x2048x1024, .f32⟩
  | .hbm, ⟨33, _⟩ => ⟨S1x1x1x2048x1x1024, .f32⟩
  | .hbm, ⟨34, _⟩ => ⟨S4x1x1x2048x1x1024, .f32⟩
  | .hbm, ⟨35, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== Proof.Encoding.lean ====
/- The function that the kernel and the reference are both shown to compute, as a formula over the extended reals. -/
module

public import Idealize.ShloMosaic.PureOps.Ideal.Laws
public import Idealize.ShloMosaic.Lib.ValueIdxCore

@[expose] public section

noncomputable section

namespace Cert.PosEnc

open Idealize.ShloMosaic Idealize.ShloMosaic.ValueIdx

/-- Position `r` of the 2048 in the sequence, as a row of the 6144-row embedding table. -/
abbrev tableRow (r : Fin 2048) : Fin 6144 := ⟨r.val, by omega⟩

/-- Entry `(r, d)` of the projected embeddings: table row `r` times column `d` of the weights, plus the bias at `d`. -/
def proj (table : (⟨2, ![6144, 128]⟩ : Shape).Idx → EReal) (W : (⟨2, ![128, 1024]⟩ : Shape).Idx → EReal)
    (b : (⟨1, ![1024]⟩ : Shape).Idx → EReal) (r : Fin 2048) (d : Fin 1024) : EReal :=
  (∑ k : Fin 128, table (ix2 (tableRow r) k) * W (ix2 k d)) + b (ix1 d)

/-- The positional encoding: every batch entry holds the same projected embeddings. -/
def encoding (table : (⟨2, ![6144, 128]⟩ : Shape).Idx → EReal) (W : (⟨2, ![128, 1024]⟩ : Shape).Idx → EReal)
    (b : (⟨1, ![1024]⟩ : Shape).Idx → EReal) : (⟨3, ![4, 2048, 1024]⟩ : Shape).Idx → EReal :=
  fun i => proj table W b (i 1) (i 2)

end Cert.PosEnc

end
-- ==== Proof.Block.lean ====
/- What the kernel's body stores at one grid point, element by element, over the extended reals. -/
module

public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

noncomputable section

namespace Cert.KernelIdeal.Block

open Cert.KernelIdeal Cert.KernelIdeal.Gen Idealize.ShloMosaic Idealize.ShloMosaic.ValueIdx

/-- A one-slab array copied to four slabs reads, in every slab, the one slab. -/
theorem broadcast_slab_apply (v : S1x512x1024.Idx → EReal) (p : Fin 4) (r : Fin 512) (d : Fin 1024) :
    broadcastTo S4x512x1024 v broadcasts_S1x512x1024_S4x512x1024 (ix3 p r d) = v (ix3 (0 : Fin 1) r d) :=
  broadcastTo_apply v broadcasts_S1x512x1024_S4x512x1024 (ix3 p r d) (ix3 (0 : Fin 1) r d) fun a => by
    match a with
    | ⟨0, _⟩ => rfl
    | ⟨1, _⟩ => rfl
    | ⟨2, _⟩ => rfl

/-- The stored block at slab `p`, row `r`, column `d`: row `r` of the table block times column `d` of the weights, plus
    the bias at `d`; the slab does not matter. -/
theorem payload_apply (x : S512x128.Idx → EReal) (w : S128x1024.Idx → EReal) (b : S1x1024.Idx → EReal)
    (p : Fin 4) (r : Fin 512) (d : Fin 1024) :
    k0_pay1 (F := Ideal) x w b (ix3 p r d)
      = (∑ k : Fin 128, x (ix2 r k) * w (ix2 k d)) + b (ix2 (0 : Fin 1) d) := by
  unfold k0_pay1
  rw [broadcast_slab_apply, shapeCast_self, shapeCast_self, shapeCast_ab_1ab_apply]
  refine congr (congrArg HAdd.hAdd ?_) (broadcastTo_1b_ab_apply _ _ _ _)
  refine (Ideal.matmul_plain_apply none x w (constant S512x1024 .f32 0x00000000#32) r d).trans ?_
  show Ideal.ofBits .f32 0x00000000#32 + _ = _
  rw [Ideal.ofBits_zero_f32, zero_add]

end Cert.KernelIdeal.Block

end
-- ==== Proof.KernelValue.lean ====
/- What the kernel's output array holds after the run: the positional encoding of its arguments. -/
module

public import proofs.«01_k».proof.Proof.Encoding
public import proofs.«01_k».proof.Proof.Block
public import proofs.«01_k».proof.Proof.Gen.KernelIdeal.Value

@[expose] public section

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The positional encoding of device `c`'s table, weights and bias as launched. -/
abbrev enc (c : Dev nD) : Buf (Elt Ideal) ((c : Thread nD τ).loc main_v1) :=
  PosEnc.encoding (m ((c : Thread nD τ).loc main_arg1)) (m ((c : Thread nD τ).loc main_arg2)) (m ((c : Thread nD τ).loc main_arg3))

/-- The bias as the kernel's region finds it: the argument reshaped to one row. -/
theorem bias_row (c : Dev nD) :
    V m c main_v0 = shapeCast S1x1024 (m ((c : Thread nD τ).loc main_arg3)) shapeCasts_S1024_S1x1024 := by
  unfold V hostOps0
  after_results
  rfl

/-- The windows' positions: at point `t` the table's and the output's row block is `t`, every other block index is 0. -/
theorem positions : ∀ t : Fin cfg0.N,
    win0_0.index t = ![t.val, 0] ∧ win0_1.index t = ![0, 0] ∧ win0_2.index t = ![0, 0] ∧ win0_3.index t = ![0, t.val, 0] :=
  (by decide +kernel : ∀ t : Fin grid0.N,
    win0_0.index t = ![t.val, 0] ∧ win0_1.index t = ![0, 0] ∧ win0_2.index t = ![0, 0] ∧ win0_3.index t = ![0, t.val, 0])

/-- Row `r` of point `t`'s block, as a row of the whole output. -/
abbrev outRow (t : Fin cfg0.N) (r : Fin 512) : Fin 2048 :=
  ⟨t.val * 512 + r.val, by have := t.isLt; have h : cfg0.N = 4 := N_0; omega⟩

/-- The table block at point `t`: its row `r` is the table's row `512 t + r`. -/
theorem table_block (c : Dev nD) (t : Fin cfg0.N) (r : Fin 512) (k : Fin 128) :
    iblk m c 0 t (ix2 r k) = m ((c : Thread nD τ).loc main_arg1) (ix2 (PosEnc.tableRow (outRow t r)) k) := by
  show V m c main_arg1 ((win0_0.rect t).emb (ix2 r k)) = _
  rw [V_main_arg1]
  refine congrArg _ (funext fun a => Fin.ext ?_)
  have h := (positions t).1
  match a with
  | ⟨0, _⟩ => exact (win0_0.rect_emb_val t (ix2 r k) 0).trans (by rw [h]; rfl)
  | ⟨1, _⟩ => exact (win0_0.rect_emb_val_of_index_zero t 1 (by rw [h]; rfl) (ix2 r k))

/-- The weights' block is the whole of the weights. -/
theorem weight_block (c : Dev nD) (t : Fin cfg0.N) (k : Fin 128) (d : Fin 1024) :
    iblk m c 1 t (ix2 k d) = m ((c : Thread nD τ).loc main_arg2) (ix2 k d) := by
  show V m c main_arg2 ((win0_1.rect t).emb (ix2 k d)) = _
  rw [V_main_arg2]
  refine congrArg _ (funext fun a => Fin.ext ?_)
  have h := (positions t).2.1
  match a with
  | ⟨0, _⟩ => exact (win0_1.rect_emb_val_of_index_zero t 0 (by rw [h]; rfl) (ix2 k d))
  | ⟨1, _⟩ => exact (win0_1.rect_emb_val_of_index_zero t 1 (by rw [h]; rfl) (ix2 k d))

/-- The bias block is the bias, as one row. -/
theorem bias_block (c : Dev nD) (t : Fin cfg0.N) (d : Fin 1024) :
    iblk m c 2 t (ix2 (0 : Fin 1) d) = m ((c : Thread nD τ).loc main_arg3) (ix1 d) := by
  show V m c main_v0 ((win0_2.rect t).emb (ix2 (0 : Fin 1) d)) = _
  have h := (positions t).2.2.1
  rw [bias_row, show (win0_2.rect t).emb (ix2 (0 : Fin 1) d) = ix2 (0 : Fin 1) d from funext fun a => Fin.ext (by
    match a with
    | ⟨0, _⟩ => exact (win0_2.rect_emb_val_of_index_zero t 0 (by rw [h]; rfl) (ix2 (0 : Fin 1) d))
    | ⟨1, _⟩ => exact (win0_2.rect_emb_val_of_index_zero t 1 (by rw [h]; rfl) (ix2 (0 : Fin 1) d)))]
  exact shapeCast_a_1a_apply _ _ _ _

/-- What point `t` writes back is its block of the positional encoding. -/
theorem flushed_eq (c : Dev nD) (t : Fin cfg0.N) :
    (dats m 0 c).flushed 3 t = (win0_3.blk t).view.read (Elt Ideal) (enc m c) := by
  rw [Value.flushed3]
  show out0_3 (iblk m c 0 t) (iblk m c 1 t) (iblk m c 2 t) = fun y => enc m c ((win0_3.rect t).emb y)
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz3, View.ld_unit_zero (S := S512x128) hz2, View.ld_unit_zero (S := S128x1024) hz2, View.ld_unit_zero (S := S1x1024) hz2]
  funext y
  obtain ⟨p, r, d, rfl⟩ : ∃ p r d, y = ix3 p r d := ⟨_, _, _, eq_ix3 y⟩
  have h := (positions t).2.2.2
  rw [show (win0_3.rect t).emb (ix3 p r d) = ix3 p (outRow t r) d from funext fun a => Fin.ext (by
    match a with
    | ⟨0, _⟩ => exact (win0_3.rect_emb_val_of_index_zero t 0 (by rw [h]; rfl) (ix3 p r d))
    | ⟨1, _⟩ => exact (win0_3.rect_emb_val t (ix3 p r d) 1).trans (by rw [h]; rfl)
    | ⟨2, _⟩ => exact (win0_3.rect_emb_val_of_index_zero t 2 (by rw [h]; rfl) (ix3 p r d)))]
  refine (Block.payload_apply _ _ _ p r d).trans ?_
  rw [bias_block]
  simp only [table_block, weight_block]
  rfl

/-- Membership in point `t`'s output block, axis by axis. -/
theorem mem_block (t : Fin cfg0.N) (i : S4x2048x1024.Idx) :
    i ∈ ((cfg0.win 3).blk t).view.set ↔ ∀ a : Fin 3, win0_3.index t a * S4x512x1024.size a ≤ (i a).val
      ∧ (i a).val < win0_3.index t a * S4x512x1024.size a + S4x512x1024.size a := by
  show i ∈ ((View.whole main_v1).slice (win0_3.rect t)).set ↔ _
  rw [View.set_slice_whole, Rect.mem_set_unit]
  exact Iff.rfl

/-- Every output element is in the block of a point that writes it back: the row decides which. -/
theorem cover (i : S4x2048x1024.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  have hN : cfg0.N = 4 := N_0
  refine ⟨⟨(i 1).val / 512, by omega⟩, flush0_3 _, ?_⟩
  rw [mem_block, (positions _).2.2.2]
  intro a
  match a with
  | ⟨0, _⟩ => show 0 * 4 ≤ (i 0).val ∧ (i 0).val < 0 * 4 + 4; omega
  | ⟨1, _⟩ => show (i 1).val / 512 * 512 ≤ (i 1).val ∧ (i 1).val < (i 1).val / 512 * 512 + 512; omega
  | ⟨2, _⟩ => show 0 * 1024 ≤ (i 2).val ∧ (i 2).val < 0 * 1024 + 1024; omega

/-- After the run the output array is the positional encoding of the arguments. -/
theorem final (c : Dev nD) : (dats m 0 c).arrAt 3 cfg0.N = enc m c :=
  (dats m 0 c).arrAt_eq_of_cover 3 (enc m c) (fun t _ => flushed_eq m c t) cover

end Cert.KernelIdeal.KernelValue

end
-- ==== Proof.RefValue.lean ====
/- What the reference returns, element by element: the looked-up row is the table's row of that number (the positions
   0 … 2047 are inside the table, so no lookup is out of range), and the tiling repeats one array. -/
module

public import proofs.«01_k».proof.Proof.Encoding
public import proofs.«01_k».proof.Proof.Gen.ReferenceIdeal.Read
public import Idealize.ShloMosaic.Lib.Routing.Ops
public import Idealize.ShloMosaic.Lib.ReduceAll
public import Idealize.ShloMosaic.Lib.ValueIdxRank6
public import Idealize.ShloMosaic.Lib.WordCmp

@[expose] public section

noncomputable section

namespace Cert.ReferenceIdeal.RefValue

open Cert.ReferenceIdeal Cert.ReferenceIdeal.Gen Cert.ReferenceIdeal.Read
open Idealize.ShloMosaic Idealize.ShloMosaic.ValueIdx

/-- A position as a signed word is not negative and not past the table's last row. -/
theorem word_range (n : Nat) (h : n < 2048) :
    IntOp.cmpi .slt (BitVec.ofNat 32 n) 0#32 = 0#1 ∧ IntOp.cmpi .sge (BitVec.ofNat 32 n) 0#32 = 1#1
      ∧ IntOp.cmpi .sle (BitVec.ofNat 32 n) 6143#32 = 1#1 := by
  have e : (BitVec.ofNat 32 n).toInt = n := WordCmp.toInt_ofNat_of_lt (by omega)
  have z : (0#32 : BitVec 32).toInt = 0 := by decide
  have t : (6143#32 : BitVec 32).toInt = 6143 := by decide
  have hneg : ¬ (n : Int) < 0 := by omega
  have hnn : (0 : Int) ≤ n := by omega
  have hle : (n : Int) ≤ 6143 := by omega
  simp only [IntOp.cmpi, BitVec.slt, BitVec.sle, e, z, t, hneg, hnn, hle]
  exact ⟨rfl, rfl, rfl⟩

/-- The wrapped index of position `r` is `r` itself. -/
theorem index_apply (i : S2048.Idx) : val_main_call0_v4 (F := Ideal) i = BitVec.ofNat 32 (i 0).val := by
  rw [val_main_call0_v4_apply, val_main_call0_v1_apply, val_main_v0_apply, val_main_call0_v0_apply, val_main_call0_c_apply,
    (word_range _ (i 0).isLt).1]
  exact select_zero _ _

/-- Every position passes the range test. -/
theorem in_range (i : S2048.Idx) : val_main_call0_v12 (F := Ideal) i = 1#1 := by
  unfold val_main_call0_v12
  refine Host.reduce_andi_one _ _ _ _ _ rfl fun j => ?_
  have h := word_range (idx_main_call0_v5 j 0).val (idx_main_call0_v5 j 0).isLt
  rw [val_main_call0_v11_apply, val_main_call0_v7_apply, val_main_call0_v10_apply, val_main_call0_v5_apply, index_apply,
    val_main_call0_v6_apply, val_main_call0_c_2_apply, val_main_call0_v9_apply, val_main_call0_v8_apply, val_main_call0_c_1_apply,
    h.2.1, h.2.2]
  rfl

/-- The looked-up embedding of position `r` is the table's row `r`. -/
theorem lookup_apply (table : S6144x128.Idx → EReal) (r : Fin 2048) (k : Fin 128) :
    val_main_v1 (F := Ideal) table (ix2 r k) = table (ix2 (PosEnc.tableRow r) k) := by
  rw [val_main_v1_apply, val_main_call0_v14_apply, in_range, select_one]
  unfold val_main_call0_v13
  refine Routing.gather_row _ rfl rfl rfl rfl rfl table _ r k (PosEnc.tableRow r) ?_ (by decide)
  rw [val_main_call0_v5_apply, index_apply]

/-- The projected embeddings at `(r, d)`. -/
theorem proj_apply (table : S6144x128.Idx → EReal) (W : S128x1024.Idx → EReal) (b : S1024.Idx → EReal)
    (r : Fin 2048) (d : Fin 1024) : val_main_v5 (F := Ideal) table W b (ix2 r d) = PosEnc.proj table W b r d := by
  rw [val_main_v5_apply, val_main_v2_apply, val_main_v4_apply, val_main_v3_apply]
  unfold PosEnc.proj
  show (_ : EReal) + _ = _
  refine congr (congrArg (HAdd.hAdd (α := EReal)) (Finset.sum_congr rfl fun k _ => ?_)) (congrArg b (funext fun a => ?_))
  · rw [show lidx_main_v2 (ix2 r d) k = ix2 r k from funext fun a => by match a with | ⟨0, _⟩ => rfl | ⟨1, _⟩ => rfl,
      show ridx_main_v2 (ix2 r d) k = ix2 k d from funext fun a => by match a with | ⟨0, _⟩ => rfl | ⟨1, _⟩ => rfl,
      lookup_apply]
  · match a with
    | ⟨0, _⟩ => rfl

/-- The tiled result is the positional encoding. -/
theorem result_eq (table : S6144x128.Idx → EReal) (W : S128x1024.Idx → EReal) (b : S1024.Idx → EReal) :
    val_main_v9 (F := Ideal) table W b = PosEnc.encoding table W b := by
  funext i
  obtain ⟨p, r, d, rfl⟩ : ∃ p r d, i = ix3 p r d := ⟨_, _, _, eq_ix3 i⟩
  unfold val_main_v9
  rw [shapeCast_apply _ _ (ix3 p r d) (ix6 p (0 : Fin 1) (0 : Fin 1) r (0 : Fin 1) d) (by
    rw [Shape.rowMajor_val_six, Shape.rowMajor_val_three]
    show (((((p.val * 1 + 0) * 1 + 0) * 2048 + r.val) * 1 + 0) * 1024 + d.val) = (p.val * 2048 + r.val) * 1024 + d.val
    omega)]
  rw [val_main_v8_apply]
  unfold val_main_v7
  rw [shapeCast_apply _ _ _ (ix3 (0 : Fin 1) r d) (by
    rw [Shape.rowMajor_val_six, Shape.rowMajor_val_three]
    show (0 * 2048 + r.val) * 1024 + d.val = (((((0 * 1 + 0) * 1 + 0) * 2048 + r.val) * 1 + 0) * 1024 + d.val)
    omega)]
  rw [val_main_v6_apply]
  exact (congrArg _ (funext fun a => by match a with | ⟨0, _⟩ => rfl | ⟨1, _⟩ => rfl)).trans (proj_apply table W b r d)

end Cert.ReferenceIdeal.RefValue

end
-- ==== Proof.lean ====
/- The proof of the five claims: the frames are generated, the value claim joins what the kernel computes
   (KernelValue.lean) with what the reference computes (RefValue.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- The reference runs to the end, leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from equal arguments, the kernel and the reference end with the same array: the positional
    encoding of the arguments. -/
theorem algebraic : Cert.algebraic_KernelIdeal_ReferenceIdeal := by
  intro m ρ m' ρ' _ hagree
  refine ⟨fun c => Cert.KernelIdeal.KernelValue.enc m c, ?_, ?_⟩
  · exact (θ_run Cert.KernelIdeal.defs _ _).mono
      (fun _ h c => ⟨(h c).1.trans (Cert.KernelIdeal.KernelValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).2.1, (hagree c).2.2.1, (hagree c).2.2.2]
    exact Cert.ReferenceIdeal.RefValue.result_eq _ _ _

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
